-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S256x1024 : Shape := ⟨2, ![256, 1024]⟩
abbrev S_ : Shape := ⟨0, ![]⟩
abbrev S16384x1 : Shape := ⟨2, ![16384, 1]⟩
abbrev S1x1 : Shape := ⟨2, ![1, 1]⟩
abbrev S4096x256 : Shape := ⟨2, ![4096, 256]⟩
abbrev S4096x1 : Shape := ⟨2, ![4096, 1]⟩
abbrev S1x1024 : Shape := ⟨2, ![1, 1024]⟩
abbrev S1024 : Shape := ⟨1, ![1024]⟩
abbrev S256x256 : Shape := ⟨2, ![256, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩
abbrev S1x256x1 : Shape := ⟨3, ![1, 256, 1]⟩
abbrev S16384 : Shape := ⟨1, ![16384]⟩

abbrev nBuf : Space → Nat
  | .hbm => 12
  | .vmem => 7
  | .smem => 1
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S16384x1, .i32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384, .i32⟩
  | .local _ .vmem, ⟨0, _⟩ => ⟨S4096x256, .f32⟩
  | .local _ .vmem, ⟨1, _⟩ => ⟨S4096x256, .f32⟩
  | .local _ .vmem, ⟨2, _⟩ => ⟨S256x1024, .f32⟩
  | .local _ .vmem, ⟨3, _⟩ => ⟨S4096x1, .i32⟩
  | .local _ .vmem, ⟨4, _⟩ => ⟨S4096x1, .i32⟩
  | .local _ .vmem, ⟨5, _⟩ => ⟨S1x1024, .f32⟩
  | .local _ .vmem, ⟨6, _⟩ => ⟨S1x1024, .f32⟩
  | .local _ .smem, ⟨0, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S256x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S16384x256, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S1024x256, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S256x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Body.lean ====
/- What one run of the kernel's body stores, in one vocabulary for its sixteen sub-blocks of 256 rows: the body
   treats every sub-block alike (scores by one matrix product, a running minimum over the eight groups of 128 columns
   with the column number of the minimum carried beside it, the minimum over the 128 lanes, the least column number that
   attains it), so each stored piece is the same function of its rows, whichever of the body's two cases stores it. -/
module

public import proofs.«01_k».proof.Proof.Gen.KernelIdeal.Frame
public import Idealize.ShloMosaic.Lib.Pipeline.Value
public import Idealize.ShloMosaic.Lib.ValueIdx
public import Idealize.ShloMosaic.Lib.Tactic

@[expose] public section

set_option maxRecDepth 16384

noncomputable section

open Idealize.ShloMosaic Idealize.ShloMosaic.TcCoe Idealize.ShloMosaic.ValueIdx Idealize.SL.Sem

namespace Cert.KernelIdeal.Value

open Cert.KernelIdeal Cert.KernelIdeal.Gen

variable {F : FTy → Type} [FloatOps F]

/-! ## One sub-block -/

theorem lane_inb (g : ℕ) : ∀ a, (![0, 128 * (g % 8)] : Fin 2 → ℕ) a + S1x128.size a ≤ S1x1024.size a := by
  intro a
  have h : g % 8 < 8 := Nat.mod_lt _ (by omega)
  match a with
  | ⟨0, _⟩ => show 0 + 1 ≤ 1; omega
  | ⟨1, _⟩ => show 128 * (g % 8) + 128 ≤ 1024; omega

theorem lane_slices (g : ℕ) : S256x1024.Slices ![0, 128 * (g % 8)] S256x128 := by
  have h : g % 8 < 8 := Nat.mod_lt _ (by omega)
  refine ⟨rfl, fun a => ?_⟩
  match a with
  | ⟨0, _⟩ => show 0 + 256 ≤ 256; omega
  | ⟨1, _⟩ => show 128 * (g % 8) + 128 ≤ 1024; omega

theorem rows_inb (j : ℕ) : ∀ a, (![256 * (j % 16), 0] : Fin 2 → ℕ) a + S256x256.size a ≤ S4096x256.size a := by
  intro a
  have h : j % 16 < 16 := Nat.mod_lt _ (by omega)
  match a with
  | ⟨0, _⟩ => show 256 * (j % 16) + 256 ≤ 4096; omega
  | ⟨1, _⟩ => show 0 + 256 ≤ 256; omega

theorem store_inb (j : ℕ) : ∀ a, (![256 * (j % 16), 0] : Fin 2 → ℕ) a + (![256, 1] : Fin 2 → ℕ) a ≤ S4096x1.size a := by
  intro a
  have h : j % 16 < 16 := Nat.mod_lt _ (by omega)
  match a with
  | ⟨0, _⟩ => show 256 * (j % 16) + 256 ≤ 4096; omega
  | ⟨1, _⟩ => show 0 + 1 ≤ 1; omega

/-- Column group `g` of a row of 1024 numbers. -/
def lanes (x : Vec F S1x1024 .f32) (g : ℕ) : Vec F S1x128 .f32 :=
  View.ld x (Rect.unit ![0, 128 * (g % 8)] S1x128.size (lane_inb g))

/-- Sub-block `j` of a block of 4096 rows. -/
def rows (z : Vec F S4096x256 .f32) (j : ℕ) : Vec F S256x256 .f32 :=
  View.ld z (Rect.unit ![256 * (j % 16), 0] S256x256.size (rows_inb j))

/-- The scores of a sub-block: its rows times the scaled, transposed centroids. -/
def score (ct : Vec F S256x1024 .f32) (z : Vec F S256x256 .f32) : FVec F S256x1024 .f32 :=
  matmul dot_S256x256_S256x1024_S256x1024_1_0_0_1_n_n none z (k0_pay2 ct) (constant S256x1024 .f32 0x00000000#32)

/-- Group `g` of the shifted distances: the centroids' squared norms plus the scores. -/
def dist (s : FVec F S256x1024 .f32) (c2 : Vec F S1x1024 .f32) (g : ℕ) : FVec F S256x128 .f32 :=
  addf (broadcastTo S256x128 (lanes c2 g) broadcasts_S1x128_S256x128)
    (extractStridedSlice S256x128 ![0, 128 * (g % 8)] s (lane_slices g))

/-- Group `g` of the column numbers. -/
def labels (io : Vec F S1x1024 .f32) (g : ℕ) : FVec F S256x128 .f32 :=
  broadcastTo S256x128 (shapeCast S1x128 (lanes io g) shapeCasts_S1x128_S1x128) broadcasts_S1x128_S256x128

/-- The running minimum over groups `0 … n`. -/
def best (s : FVec F S256x1024 .f32) (c2 : Vec F S1x1024 .f32) : ℕ → FVec F S256x128 .f32
  | 0 => dist s c2 0
  | n + 1 => minimumf (dist s c2 (n + 1)) (best s c2 n)

/-- The column number of the running minimum. -/
def bestAt (s : FVec F S256x1024 .f32) (c2 io : Vec F S1x1024 .f32) : ℕ → FVec F S256x128 .f32
  | 0 => labels io 0
  | n + 1 => select (cmpf .olt (dist s c2 (n + 1)) (best s c2 n)) (labels io (n + 1)) (bestAt s c2 io n)

/-- The minimum of each row. -/
def rowMin (s : FVec F S256x1024 .f32) (c2 : Vec F S1x1024 .f32) : FVec F S256x1 .f32 :=
  shapeCast S256x1 (multiReduction .minimumf [1] S256 (best s c2 7) 0x7F800000#32 reduces_S256x128_S256 (.inl rfl) rfl)
    shapeCasts_S256_S256x1

/-- The least column number among those whose lane attains the row's minimum. -/
def rowArg (s : FVec F S256x1024 .f32) (c2 io : Vec F S1x1024 .f32) : IVec S256x1 32 :=
  fptosi 32 (shapeCast S256x1 (multiReduction .minimumf [1] S256
      (select (cmpf .oeq (best s c2 7) (broadcastTo S256x128 (rowMin s c2) broadcasts_S256x1_S256x128))
        (bestAt s c2 io 7) (broadcast S256x128 (Scalar.ofBits .f32 0x44800000#32)))
      0x7F800000#32 reduces_S256x128_S256 (.inl rfl) rfl) shapeCasts_S256_S256x1)

/-- The sum of the squares of a sub-block's entries. -/
def sumSq (z : Vec F S256x256 .f32) : F .f32 :=
  extractAt ![0, 0, 0] (shapeCast S1x1x1 (multiReduction .add [1, 2] S1
    (shapeCast S1x256x256 (mulf z z) shapeCasts_S256x256_S1x256x256) 0x00000000#32 reduces_S1x256x256_S1 (.inl rfl) rfl)
    shapeCasts_S1_S1x1x1) inpos_S1x1x1_p0_0_0

/-- The sum of a sub-block's row minima. -/
def sumMin (r : FVec F S256x1 .f32) : F .f32 :=
  extractAt ![0, 0, 0] (shapeCast S1x1x1 (multiReduction .add [1, 2] S1
    (shapeCast S1x256x1 r shapeCasts_S256x1_S1x256x1) 0x00000000#32 reduces_S1x256x1_S1 (.inl rfl) rfl)
    shapeCasts_S1_S1x1x1) inpos_S1x1x1_p0_0_0

/-! ## The whole block -/

/-- The numbers that the body stores for a block's 4096 rows: sub-block `⌊r / 256⌋`'s at row `r % 256`. -/
def blockArg (z : Vec F S4096x256 .f32) (ct : Vec F S256x1024 .f32) (c2 io : Vec F S1x1024 .f32) : Vec F S4096x1 .i32 :=
  fun y => rowArg (score ct (rows z ((y 0).val / 256))) c2 io
    (ix2 ⟨(y 0).val % 256, Nat.mod_lt _ (by omega)⟩ 0)

/-- A stored piece is `blockArg` on its rectangle. -/
theorem piece (z : Vec F S4096x256 .f32) (ct : Vec F S256x1024 .f32) (c2 io : Vec F S1x1024 .f32) (j : ℕ)
    (x : S256x1.Idx) :
    rowArg (score ct (rows z j)) c2 io x = blockArg z ct c2 io ((Rect.unit (s := S4096x1) ![256 * (j % 16), 0] ![256, 1] (store_inb j)).emb x) := by
  have hx : (x 0).val < 256 := (x 0).isLt
  have hx1 : (x 1).val < 1 := (x 1).isLt
  have hj : j % 16 < 16 := Nat.mod_lt _ (by omega)
  have hy : (((Rect.unit (s := S4096x1) ![256 * (j % 16), 0] ![256, 1] (store_inb j)).emb x) 0).val
      = 256 * (j % 16) + (x 0).val := by
    show 256 * (j % 16) + 1 * (x 0).val = _; omega
  have hr : ∀ k l : ℕ, k % 16 = l % 16 → rows z k = rows z l := by
    intro k l h; unfold rows; congr 2; rw [h]
  have e : rows z ((((Rect.unit (s := S4096x1) ![256 * (j % 16), 0] ![256, 1] (store_inb j)).emb x) 0).val / 256)
      = rows z j := hr _ _ (by rw [hy]; omega)
  unfold blockArg
  rw [e]
  refine congrArg (rowArg (score ct (rows z j)) c2 io) ?_
  funext a
  apply Fin.ext
  match a with
  | ⟨0, _⟩ => show (x 0).val = _ % 256; rw [hy]; omega
  | ⟨1, _⟩ => show (x 1).val = 0; omega

/-- The loss terms of the sub-blocks before `n`, added in the body's order. -/
def lossTerms (z : Vec F S4096x256 .f32) (ct : Vec F S256x1024 .f32) (c2 : Vec F S1x1024 .f32) : ℕ → F .f32
  | 0 => Scalar.ofBits .f32 0x00000000#32
  | n + 1 => Scalar.addf (Scalar.addf (lossTerms z ct c2 n) (sumSq (rows z n))) (sumMin (rowMin (score ct (rows z n)) c2))

section
variable (c : Dev nD) (i : grid0.Coords) (arg1 : Memref sig .tc .vmem S4096x256 .f32) (harg1 : arg1.IsWhole)
  (arg2 : Memref sig .tc .vmem S256x1024 .f32) (harg2 : arg2.IsWhole) (arg3 : Memref sig .tc .vmem S4096x1 .i32)
  (harg3 : arg3.IsWhole) (arg4 : Memref sig .tc .smem S1x1 .f32) (harg4 : arg4.IsWhole)
  (arg5 : Memref sig .tc .vmem S1x1024 .f32) (harg5 : arg5.IsWhole) (arg6 : Memref sig .tc .vmem S1x1024 .f32)
  (harg6 : arg6.IsWhole)
  (x0 : Vec F S4096x256 .f32) (x1 : Vec F S256x1024 .f32)

theorem hz : (![0, 0] : Fin 2 → Nat) = fun _ => 0 := funext fun a => by fin_cases a <;> rfl

/-- A load of a buffer of one number reads that number, whatever index names it. -/
theorem ld_one (v : Vec F S1x1 .f32) (k y : S1x1.Idx) :
    View.ld v (Rect.unit ![0, 0] S1x1.size inb_S1x1_S1x1_0_0) k = v y := by
  have h : ∀ a b : S1x1.Idx, a = b := fun a b => by
    rw [eq_ix2 a, eq_ix2 b]
    exact congrArg₂ ix2 (Subsingleton.elim (α := Fin 1) _ _) (Subsingleton.elim (α := Fin 1) _ _)
  rw [View.ld_unit_zero (S := S1x1) hz]
  exact congrArg v (h k y)

theorem out_B_2 (hc0 : ¬cond0_0 i) (xo3 : Vec F S1x1 .f32) (xs0 xs1 : Vec F S1x1024 .f32) :
    out0_B_2 c i arg1 harg1 arg2 harg2 arg3 harg3 arg4 harg4 arg5 harg5 arg6 harg6 hc0 x0 x1 xo3 xs0 xs1
      = blockArg x0 x1 xs0 xs1 := by
  have hcov := cover0_B_2 c i arg1 harg1 arg2 harg2 arg3 harg3 arg4 harg4 arg5 harg5 arg6 harg6 hc0 x0 x1 xo3 xs0 xs1
  unfold out0_B_2
  rw [View.read_writes_eq_canon _ _ _ hcov]
  funext y
  refine View.canon_apply_of_pieces (blockArg x0 x1 xs0 xs1) _ ?_ y (hcov y)
  clear hcov
  unfold kernelRun0_B
  dsimp only
  sl_unfold_words
  simp only [View.readAt_eq_ld, harg1.read_unread, harg2.read_unread, harg5.read_unread, harg6.read_unread, View.ld_unit_zero (S := S256x1024) hz]
  simp only [List.forall_mem_cons]
  exact ⟨fun x => piece x0 x1 xs0 xs1 15 x,
    fun x => piece x0 x1 xs0 xs1 14 x,
    fun x => piece x0 x1 xs0 xs1 13 x,
    fun x => piece x0 x1 xs0 xs1 12 x,
    fun x => piece x0 x1 xs0 xs1 11 x,
    fun x => piece x0 x1 xs0 xs1 10 x,
    fun x => piece x0 x1 xs0 xs1 9 x,
    fun x => piece x0 x1 xs0 xs1 8 x,
    fun x => piece x0 x1 xs0 xs1 7 x,
    fun x => piece x0 x1 xs0 xs1 6 x,
    fun x => piece x0 x1 xs0 xs1 5 x,
    fun x => piece x0 x1 xs0 xs1 4 x,
    fun x => piece x0 x1 xs0 xs1 3 x,
    fun x => piece x0 x1 xs0 xs1 2 x,
    fun x => piece x0 x1 xs0 xs1 1 x,
    fun x => piece x0 x1 xs0 xs1 0 x,
    fun _ h => absurd h List.not_mem_nil⟩

theorem sout_A_0 (hc0 : cond0_0 i) :
    sout0_A_0 c i arg1 harg1 arg2 harg2 arg3 harg3 arg4 harg4 arg5 harg5 arg6 harg6 hc0 x0 x1 = k0_pay3 x1 := by
  unfold sout0_A_0
  rw [View.read_writes_eq_canon _ _ _ (scover0_A_0 c i arg1 harg1 arg2 harg2 arg3 harg3 arg4 harg4 arg5 harg5 arg6 harg6 hc0 x0 x1)]
  unfold kernelRun0_A
  dsimp only
  sl_unfold_words
  rw [View.canon_unit_zero hz]
  simp only [View.readAt_eq_ld, harg2.read_unread, View.ld_unit_zero (S := S256x1024) hz]

theorem sout_A_1 (hc0 : cond0_0 i) :
    sout0_A_1 c i arg1 harg1 arg2 harg2 arg3 harg3 arg4 harg4 arg5 harg5 arg6 harg6 hc0 x0 x1 = k0_pay4 := by
  unfold sout0_A_1
  rw [View.read_writes_eq_canon _ _ _ (scover0_A_1 c i arg1 harg1 arg2 harg2 arg3 harg3 arg4 harg4 arg5 harg5 arg6 harg6 hc0 x0 x1)]
  unfold kernelRun0_A
  dsimp only
  sl_unfold_words
  rw [View.canon_unit_zero hz]

theorem out_A_2 (hc0 : cond0_0 i) :
    out0_A_2 c i arg1 harg1 arg2 harg2 arg3 harg3 arg4 harg4 arg5 harg5 arg6 harg6 hc0 x0 x1
      = blockArg x0 x1 (k0_pay3 x1) k0_pay4 := by
  have hcov := cover0_A_2 c i arg1 harg1 arg2 harg2 arg3 harg3 arg4 harg4 arg5 harg5 arg6 harg6 hc0 x0 x1
  unfold out0_A_2
  rw [View.read_writes_eq_canon _ _ _ hcov]
  funext y
  refine View.canon_apply_of_pieces (blockArg x0 x1 (k0_pay3 x1) k0_pay4) _ ?_ y (hcov y)
  clear hcov
  unfold kernelRun0_A
  dsimp only
  sl_unfold_words
  simp only [View.readCov_eq_canon', View.canon_unit_zero (S := S1x1024) hz, View.readAt_eq_ld, harg1.read_unread, harg2.read_unread, View.ld_unit_zero (S := S256x1024) hz]
  simp only [List.forall_mem_cons]
  exact ⟨fun x => piece x0 x1 (k0_pay3 x1) k0_pay4 15 x,
    fun x => piece x0 x1 (k0_pay3 x1) k0_pay4 14 x,
    fun x => piece x0 x1 (k0_pay3 x1) k0_pay4 13 x,
    fun x => piece x0 x1 (k0_pay3 x1) k0_pay4 12 x,
    fun x => piece x0 x1 (k0_pay3 x1) k0_pay4 11 x,
    fun x => piece x0 x1 (k0_pay3 x1) k0_pay4 10 x,
    fun x => piece x0 x1 (k0_pay3 x1) k0_pay4 9 x,
    fun x => piece x0 x1 (k0_pay3 x1) k0_pay4 8 x,
    fun x => piece x0 x1 (k0_pay3 x1) k0_pay4 7 x,
    fun x => piece x0 x1 (k0_pay3 x1) k0_pay4 6 x,
    fun x => piece x0 x1 (k0_pay3 x1) k0_pay4 5 x,
    fun x => piece x0 x1 (k0_pay3 x1) k0_pay4 4 x,
    fun x => piece x0 x1 (k0_pay3 x1) k0_pay4 3 x,
    fun x => piece x0 x1 (k0_pay3 x1) k0_pay4 2 x,
    fun x => piece x0 x1 (k0_pay3 x1) k0_pay4 1 x,
    fun x => piece x0 x1 (k0_pay3 x1) k0_pay4 0 x,
    fun _ h => absurd h List.not_mem_nil⟩

theorem out_B_3 (hc0 : ¬cond0_0 i) (xo3 : Vec F S1x1 .f32) (xs0 xs1 : Vec F S1x1024 .f32) (y : S1x1.Idx) :
    out0_B_3 c i arg1 harg1 arg2 harg2 arg3 harg3 arg4 harg4 arg5 harg5 arg6 harg6 hc0 x0 x1 xo3 xs0 xs1 y
      = Scalar.addf (xo3 y) (lossTerms x0 x1 xs0 16) := by
  unfold out0_B_3
  rw [View.read_writes_eq_canon _ _ _ (cover0_B_3 c i arg1 harg1 arg2 harg2 arg3 harg3 arg4 harg4 arg5 harg5 arg6 harg6 hc0 x0 x1 xo3 xs0 xs1)]
  unfold kernelRun0_B
  dsimp only
  sl_unfold_words
  simp only [View.readAt_eq_ld, harg1.read_unread, harg2.read_unread, harg4.read_unread, harg5.read_unread, harg6.read_unread, View.ld_unit_zero (S := S256x1024) hz, View.ld_unit_zero (S := S1x1) hz,
    View.canon_unit_zero (S := S1x1) hz]
  rw [ld_one xo3 _ y]
  rfl

theorem out_A_3 (hc0 : cond0_0 i) (y : S1x1.Idx) :
    out0_A_3 c i arg1 harg1 arg2 harg2 arg3 harg3 arg4 harg4 arg5 harg5 arg6 harg6 hc0 x0 x1 y
      = Scalar.addf (Scalar.ofBits .f32 0x00000000#32) (lossTerms x0 x1 (k0_pay3 x1) 16) := by
  unfold out0_A_3
  rw [View.read_writes_eq_canon _ _ _ (cover0_A_3 c i arg1 harg1 arg2 harg2 arg3 harg3 arg4 harg4 arg5 harg5 arg6 harg6 hc0 x0 x1)]
  unfold kernelRun0_A
  dsimp only
  sl_unfold_words
  simp only [View.readAt_eq_ld, harg1.read_unread, harg2.read_unread, View.ld_unit_zero (S := S256x1024) hz,
    View.readCov_eq_canon', View.canon_unit_zero (S := S1x1) hz, View.canon_cons_unit_zero (S := S1x1) hz, View.canon_unit_zero (S := S1x1024) hz]
  rfl

end

end Cert.KernelIdeal.Value

end
-- ==== Proof.Value.lean ====
/- What the kernel's two result arrays hold after its run: the assignment array, block by block, and the loss, the
   ordered sum of the four points' loss terms. -/
module

public import proofs.«01_k».proof.Proof.Body
public import Idealize.ShloMosaic.Lib.Claim

@[expose] public section

set_option maxRecDepth 16384

noncomputable section

open Idealize.ShloMosaic Idealize.ShloMosaic.TcCoe Idealize.ShloMosaic.ValueIdx Idealize.SL.Sem

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The scaled, transposed centroids that the host hands to the region. -/
abbrev cents (c : Dev nD) : Vec F S256x1024 .f32 := V m c main_v2

/-- Every point reads the whole array of centroids. -/
theorem iblk_cents (c : Dev nD) (t : Fin cfg0.N) : (iblk m c 1 t : Vec F S256x1024 .f32) = cents m c := by
  have hz' : (fun a => win0_1.index t a * main_v2.ty.shape.size a) = fun _ => 0 := funext fun a => by
    rcases fin_N0 t with rfl | rfl | rfl | rfl <;> fin_cases a <;> decide
  exact Memref.read_access_unit_zero (Elt F) main_v2 hz' (fun a => by rw [congrFun hz' a]; simp) (V m c main_v2)

/-- Block `t` of the data: rows `4096 t … 4096 t + 4095`. -/
def block (z : Vec F S16384x256 .f32) (t : ℕ) : Vec F S4096x256 .f32 :=
  fun y => z (ix2 ⟨4096 * (t % 4) + (y 0).val, by have h : (y 0).val < 4096 := (y 0).isLt; omega⟩ (y 1))

theorem iblk_data (c : Dev nD) (t : Fin cfg0.N) :
    (iblk m c 0 t : Vec F S4096x256 .f32) = block (m ((c : Thread nD τ).loc main_arg0)) t.val := by
  have hi : win0_0.index t 0 = t.val ∧ win0_0.index t 1 = 0 := by
    rcases fin_N0 t with rfl | rfl | rfl | rfl <;> decide
  have hN : cfg0.N = 4 := N_0
  have ht : t.val < 4 := by have := t.isLt; omega
  funext j
  unfold iblk block
  rw [View.read_apply]
  show V m c main_arg0 _ = m (c.tc.loc main_arg0) _
  rw [V_main_arg0]
  congr 1
  funext a
  apply Fin.ext
  match a with
  | ⟨0, _⟩ => show win0_0.index t 0 * 4096 + 1 * (j 0).val = 4096 * (t.val % 4) + (j 0).val; rw [hi.1]; omega
  | ⟨1, _⟩ => show win0_0.index t 1 * 256 + 1 * (j 1).val = (j 1).val; rw [hi.2]; omega

/-- The loss after point `n`. -/
def lossAt (z : Vec F S16384x256 .f32) (ct : Vec F S256x1024 .f32) : ℕ → F .f32
  | 0 => Scalar.addf (Scalar.ofBits .f32 0x00000000#32) (lossTerms (block z 0) ct (k0_pay3 ct) 16)
  | n + 1 => Scalar.addf (lossAt z ct n) (lossTerms (block z (n + 1)) ct (k0_pay3 ct) 16)

/-- What the staging buffers and the scratch hold after point `n`: the point's assignments, the running loss, the
    centroids' squared norms and the column numbers. -/
theorem outsAt_eq (c : Dev nD) : ∀ (n : ℕ) (h : n < cfg0.N), outsAt0 m c n h
    = (blockArg (block (m ((c : Thread nD τ).loc main_arg0)) n) (cents m c) (k0_pay3 (cents m c)) k0_pay4,
       (fun _ => lossAt (m ((c : Thread nD τ).loc main_arg0)) (cents m c) n), k0_pay3 (cents m c), k0_pay4)
  | 0, h => by
    refine (outsAt0_A m c ⟨0, h⟩ rfl).trans ?_
    rw [iblk_cents, iblk_data, out_A_2, sout_A_0, sout_A_1]
    refine Prod.ext rfl (Prod.ext (funext fun y => ?_) rfl)
    dsimp only
    rw [out_A_3]; rfl
  | n + 1, h => by
    have hN : cfg0.N = 4 := N_0
    have hB : ¬(⟨n + 1, h⟩ : Fin cfg0.N).val % 4 = 0 := by dsimp only; omega
    refine (outsAt0_B m c ⟨n + 1, h⟩ hB).trans ?_
    have e := outsAt_eq c n (Nat.lt_of_succ_lt h)
    simp only [Nat.add_sub_cancel]
    rw [e, iblk_cents, iblk_data, out_B_2]
    refine Prod.ext rfl (Prod.ext (funext fun y => ?_) rfl)
    dsimp only
    rw [out_B_3]; rfl

/-- The assignments, as contents of the whole array. -/
def assign (z : Vec F S16384x256 .f32) (ct : Vec F S256x1024 .f32) : Vec F S16384x1 .i32 :=
  fun y => blockArg (block z ((y 0).val / 4096)) ct (k0_pay3 ct) k0_pay4
    (ix2 ⟨(y 0).val % 4096, Nat.mod_lt _ (by omega)⟩ 0)

theorem final_loss (c : Dev nD) : (dats m 0 c).arrAt 3 cfg0.N
    = (fun _ => lossAt (m ((c : Thread nD τ).loc main_arg0)) (cents m c) 3 : Vec F S1x1 .f32) := by
  have hN : cfg0.N = 4 := N_0
  refine (dats m 0 c).arrAt_eq_of_cover 3 _ (fun t hf => ?_) fun i => ⟨t0_3, (flush0_3 t0_3).mpr rfl, ?_⟩
  · have h3 : t.val = 3 := by have := (flush0_3 t).mp hf; have := t.isLt; omega
    obtain rfl : t = t0_3 := Fin.ext h3
    show (cfg0.win 3).cut (grid0.coords t0_3) ((dats m 0 c).after 3 t0_3) = _
    rw [after0_3, outsAt_eq]
    rfl
  · show i ∈ ((View.whole main_v3_1).slice (win0_3.rect t0_3)).set
    rw [View.set_slice_whole, Rect.mem_set_unit]
    intro a
    have h0 : (i 0 : Nat) < 1 := (i 0).isLt
    have h1 : (i 1 : Nat) < 1 := (i 1).isLt
    match a with
    | ⟨0, _⟩ => show win0_3.index t0_3 0 * win0_3.size 0 ≤ (i 0 : Nat) ∧ (i 0 : Nat) < win0_3.index t0_3 0 * win0_3.size 0 + win0_3.xsize (grid0.coords t0_3) 0
                rw [show win0_3.index t0_3 0 * win0_3.size 0 = 0 from by decide +kernel, show win0_3.xsize (grid0.coords t0_3) 0 = 1 from by decide +kernel]; omega
    | ⟨1, _⟩ => show win0_3.index t0_3 1 * win0_3.size 1 ≤ (i 1 : Nat) ∧ (i 1 : Nat) < win0_3.index t0_3 1 * win0_3.size 1 + win0_3.xsize (grid0.coords t0_3) 1
                rw [show win0_3.index t0_3 1 * win0_3.size 1 = 0 from by decide +kernel, show win0_3.xsize (grid0.coords t0_3) 1 = 1 from by decide +kernel]; omega

theorem assign_index (t : Fin cfg0.N) : win0_2.index t 0 = t.val ∧ win0_2.index t 1 = 0 := by
  rcases fin_N0 t with rfl | rfl | rfl | rfl <;> decide

theorem final_assign (c : Dev nD) : (dats m 0 c).arrAt 2 cfg0.N
    = assign (m ((c : Thread nD τ).loc main_arg0)) (cents m c) := by
  have hN : cfg0.N = 4 := N_0
  refine (dats m 0 c).arrAt_eq_of_cover 2 _ (fun t hf => ?_) fun i => ?_
  · have hi := assign_index t
    show (cfg0.win 2).cut (grid0.coords t) ((dats m 0 c).after 2 t) = _
    rw [after0_2, outsAt_eq]
    funext y
    rw [View.read_apply]
    have hy : (y 0).val < 4096 := (y 0).isLt
    have hy1 : (y 1).val < 1 := (y 1).isLt
    have e : ((((cfg0.win 2).blk t).view.emb y) 0).val = 4096 * t.val + (y 0).val := by
      show win0_2.index t 0 * 4096 + 1 * (y 0).val = _; rw [hi.1]; omega
    have e0 : ((((cfg0.win 2).blk t).view.emb y) 0).val / 4096 = t.val := by rw [e]; omega
    have e1 : (ix2 ⟨((((cfg0.win 2).blk t).view.emb y) 0).val % 4096, Nat.mod_lt _ (by omega)⟩ 0 : S4096x1.Idx) = y := by
      refine Eq.trans ?_ (eq_ix2 y).symm
      exact congrArg₂ ix2 (Fin.ext (by show _ % 4096 = _; rw [e]; omega)) (Fin.ext (by show 0 = (y 1).val; omega))
    show blockArg _ _ _ _ y = assign _ _ (((cfg0.win 2).blk t).view.emb y)
    unfold assign
    rw [e0, e1]
  · have hlt : (i 0 : Nat) < 16384 := (i 0).isLt
    have h1 : (i 1 : Nat) < 1 := (i 1).isLt
    have hi := assign_index ⟨(i 0).val / 4096, by rw [hN]; omega⟩
    generalize ht : (⟨(i 0).val / 4096, by rw [hN]; omega⟩ : Fin cfg0.N) = t at hi
    have htv : t.val = (i 0).val / 4096 := by rw [← ht]
    refine ⟨t, flush0_2 t, ?_⟩
    show i ∈ ((View.whole main_v3_0).slice (win0_2.rect t)).set
    rw [View.set_slice_whole, Rect.mem_set_unit]
    intro a
    match a with
    | ⟨0, _⟩ => show win0_2.index t 0 * 4096 ≤ (i 0 : Nat) ∧ (i 0 : Nat) < win0_2.index t 0 * 4096 + 4096
                rw [hi.1]; omega
    | ⟨1, _⟩ => show win0_2.index t 1 * 1 ≤ (i 1 : Nat) ∧ (i 1 : Nat) < win0_2.index t 1 * 1 + 1
                rw [hi.2]; omega

/-- The centroids as the region finds them. -/
theorem cents_eq (c : Dev nD) : cents m c
    = mulf (broadcastInDim S256x1024 ![] bcast_S_S256x1024 (constant S_ .f32 0xC0000000#32))
        (transpose S256x1024 [1, 0] (m ((c : Thread nD τ).loc main_arg1)) transposes_S1024x256_S256x1024_1_0) := by
  unfold cents
  entry_read
  rfl

/-- The run, read: the two results, the arguments unchanged, the counters back at zero. -/
theorem run : θ_run defs (onTc (τ := τ) (main (F := F))) ⟨m, fun _ => 0, ρ⟩ fun r => (∀ c : Dev nD,
      r.2.mem ((c : Thread nD τ).loc main_v5)
        = Host.divf (fun _ => lossAt (m ((c : Thread nD τ).loc main_arg0)) (cents m c) 3)
            (constant S_ .f32 0x46800000#32)
      ∧ r.2.mem ((c : Thread nD τ).loc main_v6)
        = shapeCast S16384 (assign (m ((c : Thread nD τ).loc main_arg0)) (cents m c)) shapeCasts_S16384x1_S16384) := by
  run_from run_main m ρ
  · unfold Pipeline.afterTail₀
    simp only [List.flatten_cons, List.flatten_nil, List.append_nil]
    after_results
    have e : Pipeline.withArrays (cfgs 0).spec c (V0 m c) (fun w => (dats m 0 c).arrAt w (cfgs 0).N) (Proc.tc.devRef main_v3_1)
        = (dats m 0 c).arrAt 3 cfg0.N := Pipeline.withArrays_arr (cfgs 0).spec (by decide) c (V0 m c) _ 3
    rw [e, final_loss]
    rfl
  · unfold Pipeline.afterTail₀
    simp only [List.flatten_cons, List.flatten_nil, List.append_nil]
    after_results
    have e : Pipeline.withArrays (cfgs 0).spec c (V0 m c) (fun w => (dats m 0 c).arrAt w (cfgs 0).N) (Proc.tc.devRef main_v3_0)
        = (dats m 0 c).arrAt 2 cfg0.N := Pipeline.withArrays_arr (cfgs 0).spec (by decide) c (V0 m c) _ 2
    rw [e, final_assign]
    rfl

end Cert.KernelIdeal.Value

end
-- ==== Proof.Math.lean ====
/- The mathematics of an arg-min: the first position at which finitely many extended reals attain their least value,
   found by the reference's left fold over all of them and by the kernel's minimum over lanes of running minima. -/
module

public import Idealize.ShloMosaic.PureOps.Ideal.Laws
public import Mathlib.Tactic.Linarith

@[expose] public section

noncomputable section

open Idealize.ShloMosaic

namespace Cert.Nearest

/-- `k` is the first position at which `f` attains its least value. -/
structure FirstMin {n : ℕ} (f : Fin n → EReal) (k : Fin n) : Prop where
  le : ∀ j, f k ≤ f j
  lt : ∀ j, j < k → f k < f j

theorem FirstMin.unique {n : ℕ} {f : Fin n → EReal} {a b : Fin n} (h : FirstMin f a) (h' : FirstMin f b) : a = b := by
  rcases lt_trichotomy a b with l | l | l
  · exact absurd (h.le b) (not_le.mpr (h'.lt a l))
  · exact l
  · exact absurd (h'.le a) (not_le.mpr (h.lt b l))

theorem FirstMin.inf_eq {n : ℕ} {f : Fin n → EReal} {k : Fin n} (h : FirstMin f k) : Finset.univ.inf f = f k :=
  le_antisymm (Finset.inf_le (Finset.mem_univ k)) (Finset.le_inf fun j _ => h.le j)

theorem FirstMin.exists {n : ℕ} [NeZero n] (f : Fin n → EReal) : ∃ k, FirstMin f k := by
  obtain ⟨a, ha⟩ := Finite.exists_min f
  have hne : ({k | ∀ j, f k ≤ f j} : Set (Fin n)).Nonempty := ⟨a, ha⟩
  refine ⟨wellFounded_lt.min _ hne, wellFounded_lt.min_mem _ hne, fun j hj => ?_⟩
  have hj' : j ∉ ({k | ∀ j, f k ≤ f j} : Set (Fin n)) := fun h => wellFounded_lt.not_lt_min _ h hj
  by_contra hc
  exact hj' fun i => (not_lt.mp hc).trans (wellFounded_lt.min_mem _ hne i)

/-- Adding one real number to every value moves no arg-min. -/
theorem FirstMin.shift {n : ℕ} (F E : Fin n → ℝ) (x : ℝ) (h : ∀ k, F k = x + E k) {k : Fin n}
    (hk : FirstMin (fun j => ((F j : ℝ) : EReal)) k) : FirstMin (fun j => ((E j : ℝ) : EReal)) k := by
  refine ⟨fun j => ?_, fun j hj => ?_⟩
  · have := EReal.coe_le_coe_iff.mp (hk.le j)
    rw [h, h] at this
    exact EReal.coe_le_coe_iff.mpr (by linarith)
  · have := EReal.coe_lt_coe_iff.mp (hk.lt j hj)
    rw [h, h] at this
    exact EReal.coe_lt_coe_iff.mpr (by linarith)

/-! ## The left fold -/

/-- The fold keeps the first least value met so far with its position: over positions listed in increasing order it
    ends at the first least of all. -/
theorem foldl_first {ι : Type} {n : ℕ} (f : Fin n → EReal) (red : EReal × BitVec 32 → EReal × BitVec 32 → EReal × BitVec 32)
    (hred : ∀ a b : Fin n, a < b → red (f a, BitVec.ofNat 32 a.val) (f b, BitVec.ofNat 32 b.val)
      = if f a ≤ f b then (f a, BitVec.ofNat 32 a.val) else (f b, BitVec.ofNat 32 b.val))
    (κ : ι → Fin n) : ∀ (l : List ι) (k₀ : Fin n), l.Pairwise (fun a b => κ a < κ b) → (∀ i ∈ l, k₀ < κ i) →
    ∃ k, (l.map fun i => (f (κ i), BitVec.ofNat 32 (κ i).val)).foldl red (f k₀, BitVec.ofNat 32 k₀.val)
        = (f k, BitVec.ofNat 32 k.val)
      ∧ k₀ ≤ k ∧ f k ≤ f k₀ ∧ (k₀ < k → f k < f k₀) ∧ ∀ i ∈ l, f k ≤ f (κ i) ∧ (κ i < k → f k < f (κ i))
  | [], k₀, _, _ => ⟨k₀, rfl, le_rfl, le_rfl, fun h => absurd h (lt_irrefl _), fun i hi => absurd hi List.not_mem_nil⟩
  | i :: l, k₀, hp, h0 => by
    have hp' := List.pairwise_cons.mp hp
    have hi : k₀ < κ i := h0 i List.mem_cons_self
    rw [List.map_cons, List.foldl_cons, hred k₀ (κ i) hi]
    by_cases hc : f k₀ ≤ f (κ i)
    · rw [if_pos hc]
      obtain ⟨k, he, hle, hk0, hk0', hl⟩ := foldl_first f red hred κ l k₀ hp'.2 fun j hj => h0 j (List.mem_cons_of_mem _ hj)
      refine ⟨k, he, hle, hk0, hk0', fun j hj => ?_⟩
      rcases List.mem_cons.mp hj with rfl | hj
      · exact ⟨hk0.trans hc, fun h => (hk0' (hi.trans h)).trans_le hc⟩
      · exact hl j hj
    · rw [if_neg hc]
      have hc' := not_le.mp hc
      obtain ⟨k, he, hle, hk0, hk0', hl⟩ := foldl_first f red hred κ l (κ i) hp'.2 fun j hj => hp'.1 j hj
      refine ⟨k, he, hi.le.trans hle, hk0.trans hc'.le, fun _ => hk0.trans_lt hc', fun j hj => ?_⟩
      rcases List.mem_cons.mp hj with rfl | hj
      · exact ⟨hk0, hk0'⟩
      · exact hl j hj

/-! ## Lanes -/

/-- Column `l` of group `g`. -/
def col (g : ℕ) (l : Fin 128) : Fin 1024 := ⟨128 * (g % 8) + l.val, by have := l.isLt; omega⟩

theorem exists_col (k : Fin 1024) : ∃ g : ℕ, g < 8 ∧ ∃ l : Fin 128, k = col g l :=
  ⟨k.val / 128, by omega, ⟨k.val % 128, by omega⟩, Fin.ext (by show k.val = 128 * (k.val / 128 % 8) + k.val % 128; omega)⟩

/-- What a lane carries after groups `0 … n`: the least value of its columns there, with the first column's number. -/
structure Carries (e : Fin 1024 → EReal) (l : Fin 128) (n : ℕ) (b a : EReal) : Prop where
  le : ∀ j, j ≤ n → b ≤ e (col j l)
  at' : ∃ g, g ≤ n ∧ b = e (col g l) ∧ a = (((col g l).val : ℝ) : EReal) ∧ ∀ j, j < g → b < e (col j l)

theorem Carries.zero (e : Fin 1024 → EReal) (l : Fin 128) :
    Carries e l 0 (e (col 0 l)) (((col 0 l).val : ℝ) : EReal) :=
  ⟨fun j hj => by rw [Nat.le_zero.mp hj], ⟨0, le_rfl, rfl, rfl, fun j hj => absurd hj (Nat.not_lt_zero j)⟩⟩

theorem Carries.succ {e : Fin 1024 → EReal} {l : Fin 128} {n : ℕ} {b a : EReal} (h : Carries e l n b a) :
    Carries e l (n + 1) (min (e (col (n + 1) l)) b)
      (if e (col (n + 1) l) < b then (((col (n + 1) l).val : ℝ) : EReal) else a) := by
  obtain ⟨g, hg, hb, ha, hlt⟩ := h.at'
  refine ⟨fun j hj => ?_, ?_⟩
  · rcases Nat.lt_or_ge n j with hj' | hj'
    · obtain rfl : j = n + 1 := by omega
      exact min_le_left _ _
    · exact (min_le_right _ _).trans (h.le j hj')
  · by_cases hc : e (col (n + 1) l) < b
    · rw [if_pos hc, min_eq_left hc.le]
      exact ⟨n + 1, le_rfl, rfl, rfl, fun j hj => hc.trans_le (h.le j (by omega))⟩
    · rw [if_neg hc, min_eq_right (not_lt.mp hc)]
      exact ⟨g, by omega, hb, ha, hlt⟩

/-- The least of the lanes' minima is the least value of all. -/
theorem inf_lanes {e : Fin 1024 → EReal} {b a : Fin 128 → EReal} (h : ∀ l, Carries e l 7 (b l) (a l)) {k : Fin 1024}
    (hk : FirstMin e k) : Finset.univ.inf b = e k := by
  apply le_antisymm
  · obtain ⟨g, hg, l, rfl⟩ := exists_col k
    exact (Finset.inf_le (Finset.mem_univ l)).trans ((h l).le g (by omega))
  · refine Finset.le_inf fun l _ => ?_
    obtain ⟨g, _, hb, _⟩ := (h l).at'
    rw [hb]; exact hk.le _

/-- And the least column number carried by a lane that attains it is the first column that attains it. -/
theorem inf_numbers {e : Fin 1024 → EReal} {b a : Fin 128 → EReal} (h : ∀ l, Carries e l 7 (b l) (a l)) {k : Fin 1024}
    (hk : FirstMin e k) (big : EReal) (hbig : (((1024 : ℝ)) : EReal) ≤ big) :
    Finset.univ.inf (fun l => if b l = e k then a l else big) = ((k.val : ℝ) : EReal) := by
  have hle : ∀ j : Fin 1024, e j = e k → ((k.val : ℝ) : EReal) ≤ ((j.val : ℝ) : EReal) := fun j hj => by
    have : ¬j < k := fun hlt => absurd (hk.lt j hlt) (by rw [hj]; exact lt_irrefl _)
    exact EReal.coe_le_coe_iff.mpr (by exact_mod_cast not_lt.mp this)
  apply le_antisymm
  · obtain ⟨g, hg, l, rfl⟩ := exists_col k
    refine (Finset.inf_le (Finset.mem_univ l)).trans ?_
    obtain ⟨g', hg', hb, ha, hlt⟩ := (h l).at'
    have hbe : b l = e (col g l) := le_antisymm ((h l).le g (by omega)) (by rw [hb]; exact hk.le _)
    rw [if_pos hbe, ha]
    have : g' ≤ g := by
      by_contra hc
      exact absurd (hlt g (not_le.mp hc)) (by rw [hbe]; exact lt_irrefl _)
    refine EReal.coe_le_coe_iff.mpr ?_
    have : 128 * (g' % 8) + l.val ≤ 128 * (g % 8) + l.val := by omega
    show ((128 * (g' % 8) + l.val : ℕ) : ℝ) ≤ ((128 * (g % 8) + l.val : ℕ) : ℝ)
    exact_mod_cast this
  · refine Finset.le_inf fun l _ => ?_
    by_cases hc : b l = e k
    · rw [if_pos hc]
      obtain ⟨g', hg', hb, ha, hlt⟩ := (h l).at'
      rw [ha]
      exact hle _ (by rw [← hb, hc])
    · rw [if_neg hc]
      refine le_trans ?_ hbig
      refine EReal.coe_le_coe_iff.mpr ?_
      have := k.isLt
      exact_mod_cast this.le

/-! ## Sums -/

/-- A sum over `a · b` positions, in `a` runs of `b`. -/
theorem sum_runs (Q : ℕ → EReal) (b : ℕ) : ∀ a : ℕ,
    ∑ i ∈ Finset.range (a * b), Q i = ∑ x ∈ Finset.range a, ∑ y ∈ Finset.range b, Q (b * x + y)
  | 0 => by simp
  | a + 1 => by
    rw [Nat.succ_mul, Finset.sum_range_add, sum_runs Q b a, Finset.sum_range_succ, Nat.mul_comm a b]

end Cert.Nearest

end
-- ==== Proof.Reading.lean ====
/- The kernel's two results over the extended reals: each row's assignment is the first centroid with the least
   `‖c‖² - 2⟨z, c⟩`, and the loss is the sum over all rows of `‖z‖²` and that least value. -/
module

public import proofs.«01_k».proof.Proof.Value
public import proofs.«01_k».proof.Proof.Math
public import Idealize.ShloMosaic.Lib.MatmulPlain
public import Idealize.ShloMosaic.Lib.ValueLayout
public import Idealize.ShloMosaic.Lib.ValueLayoutCasts
public import Idealize.ShloMosaic.Lib.Pointwise.Index
public import Mathlib.Tactic.NormNum

@[expose] public section

set_option maxRecDepth 16384

noncomputable section

open Idealize.ShloMosaic hiding ix1 ix2 ix3
open Idealize.ShloMosaic.TcCoe Idealize.ShloMosaic.ValueIdx Idealize.SL.Sem

namespace Cert.Nearest

/-- The source index over a row, dropping the columns. -/
theorem lift_row {a b : ℕ} (h : (⟨2, ![a, b]⟩ : Shape).Reduces [1] (⟨1, ![a]⟩ : Shape)) (r : Fin a) (l : Fin b) :
    h.lift (ix1 r) l = ix2 r l :=
  funext fun c => Fin.ext (match c with | ⟨0, _⟩ => rfl | ⟨1, _⟩ => rfl)

/-- The source index over a column, dropping the rows. -/
theorem lift_column {a b : ℕ} (h : (⟨2, ![a, b]⟩ : Shape).Reduces [0] (⟨1, ![b]⟩ : Shape)) (c : Fin b) (r : Fin a) :
    h.lift (ix1 c) r = ix2 r c :=
  funext fun x => Fin.ext (match x with | ⟨0, _⟩ => rfl | ⟨1, _⟩ => rfl)

theorem top_word : Ideal.ofBits .f32 0x7F800000#32 = (⊤ : EReal) := by simp [Ideal.ofBits, Ideal.ieee]

/-- A minimum over the columns, read at a row: the least of the row. -/
theorem rowMin_apply {a b : ℕ} (x : FVec Ideal ⟨2, ![a, b]⟩ .f32)
    (h : (⟨2, ![a, b]⟩ : Shape).Reduces [1] (⟨1, ![a]⟩ : Shape)) (hφ : FKind.Formats .f32)
    (hacc : (0x7F800000#32 : BitVec FTy.f32.bits) = FKind.minimumf.neutral .f32 hφ) (r : Fin a) :
    multiReduction .minimumf [1] ⟨1, ![a]⟩ x 0x7F800000#32 h hφ hacc (ix1 r)
      = Finset.univ.inf fun l : Fin b => (x (ix2 r l) : EReal) := by
  refine (multiReduction_minimumf_eq_fold x _ h hφ hacc (ix1 r)).trans ?_
  rw [h.fold_filter_drop_single]
  have hf : (x ∘ h.lift (ix1 r)) = fun l : Fin b => x (ix2 r l) := funext fun l => congrArg x (lift_row h r l)
  refine Eq.trans (congrArg (fun f : Fin b → EReal => Finset.fold min (Ideal.ofBits .f32 0x7F800000#32) f Finset.univ) hf) ?_
  rw [top_word]
  rfl

/-- A column number below 1024 is converted to its word. -/
theorem fptosi_number (k : ℕ) (hk : k < 1024) : Ideal.fptosi 32 (((k : ℝ)) : EReal) = BitVec.ofNat 32 k := by
  have h : Ideal.toIntClamped (-(2 ^ (32 - 1) : Nat)) ((2 ^ (32 - 1) : Nat) - 1) (((k : ℝ)) : EReal) = (k : ℤ) := by
    show max _ (min _ (if (0 : ℝ) ≤ (k : ℝ) then ⌊(k : ℝ)⌋ else ⌈(k : ℝ)⌉)) = _
    rw [if_pos (Nat.cast_nonneg k), Int.floor_natCast]
    have : (k : ℤ) < 1024 := by exact_mod_cast hk
    omega
  unfold Ideal.fptosi
  rw [h]
  exact BitVec.ofInt_natCast 32 k

theorem number_word : Ideal.ofBits .f32 0x44800000#32 = (((1024 : ℝ)) : EReal) := by
  simp [Ideal.ofBits, Ideal.ieee, -EReal.coe_mul]; norm_num

theorem quarter_word : Ideal.ofBits .f32 0x3E800000#32 = (((1 / 4 : ℝ)) : EReal) := by
  simp [Ideal.ofBits, Ideal.ieee, -EReal.coe_mul]; norm_num

end Cert.Nearest

namespace Cert.KernelIdeal.Value

open Cert.KernelIdeal Cert.KernelIdeal.Gen Cert.Nearest

/-! ## One sub-block -/

/-- A sub-block's shifted distances: at row `r`, column `k`. -/
def shifted (s : FVec Ideal S256x1024 .f32) (c2 : Vec Ideal S1x1024 .f32) (r : Fin 256) (k : Fin 1024) : EReal :=
  c2 (ix2 (0 : Fin 1) k) + s (ix2 r k)

theorem lanes_apply (x : Vec Ideal S1x1024 .f32) (g : ℕ) (l : Fin 128) :
    lanes x g (ix2 (0 : Fin 1) l) = x (ix2 (0 : Fin 1) (col g l)) := by
  show x _ = x _
  refine congrArg x (funext fun a => Fin.ext ?_)
  match a with
  | ⟨0, _⟩ => rfl
  | ⟨1, _⟩ => show 128 * (g % 8) + 1 * l.val = 128 * (g % 8) + l.val; omega

theorem dist_apply (s : FVec Ideal S256x1024 .f32) (c2 : Vec Ideal S1x1024 .f32) (g : ℕ) (r : Fin 256) (l : Fin 128) :
    dist s c2 g (ix2 r l) = shifted s c2 r (col g l) := by
  have e1 : broadcastTo S256x128 (lanes c2 g) broadcasts_S1x128_S256x128 (ix2 r l) = c2 (ix2 (0 : Fin 1) (col g l)) :=
    (broadcastTo_1b_ab_apply _ _ r l).trans (lanes_apply c2 g l)
  have e2 : extractStridedSlice S256x128 ![0, 128 * (g % 8)] s (lane_slices g) (ix2 r l) = s (ix2 r (col g l)) :=
    slice2_axis1_apply _ s _ r l (col g l) rfl
  exact congrArg₂ (fun x y : EReal => x + y) e1 e2

theorem labels_apply (io : Vec Ideal S1x1024 .f32) (g : ℕ) (r : Fin 256) (l : Fin 128) :
    labels io g (ix2 r l) = io (ix2 (0 : Fin 1) (col g l)) := by
  unfold labels
  rw [shapeCast_self]
  exact (broadcastTo_1b_ab_apply _ _ r l).trans (lanes_apply io g l)

/-- The column numbers, read. -/
def Numbers (io : Vec Ideal S1x1024 .f32) : Prop := ∀ k : Fin 1024, io (ix2 (0 : Fin 1) k) = (((k.val : ℝ)) : EReal)

/-- After group `n` each lane carries the least of its columns so far. -/
theorem carries (s : FVec Ideal S256x1024 .f32) (c2 io : Vec Ideal S1x1024 .f32) (hio : Numbers io) (r : Fin 256)
    (l : Fin 128) : ∀ n : ℕ, Carries (shifted s c2 r) l n (best s c2 n (ix2 r l)) (bestAt s c2 io n (ix2 r l))
  | 0 => by
    have e1 : best s c2 0 (ix2 r l) = shifted s c2 r (col 0 l) := dist_apply s c2 0 r l
    have e2 : bestAt s c2 io 0 (ix2 r l) = ((((col 0 l).val : ℝ)) : EReal) := (labels_apply io 0 r l).trans (hio _)
    rw [e1, e2]
    exact Carries.zero _ _
  | n + 1 => by
    have e1 : best s c2 (n + 1) (ix2 r l) = min (shifted s c2 r (col (n + 1) l)) (best s c2 n (ix2 r l)) :=
      congrArg (fun x : EReal => min x (best s c2 n (ix2 r l))) (dist_apply s c2 (n + 1) r l)
    have e2 : bestAt s c2 io (n + 1) (ix2 r l)
        = if shifted s c2 r (col (n + 1) l) < best s c2 n (ix2 r l) then ((((col (n + 1) l).val : ℝ)) : EReal)
          else bestAt s c2 io n (ix2 r l) := by
      show Scalar.select (BitVec.ofBool (decide ((dist s c2 (n + 1) (ix2 r l) : EReal) < best s c2 n (ix2 r l))))
        (labels io (n + 1) (ix2 r l)) (bestAt s c2 io n (ix2 r l)) = _
      rw [dist_apply, labels_apply, hio]
      by_cases hc : shifted s c2 r (col (n + 1) l) < best s c2 n (ix2 r l)
      · rw [if_pos hc, decide_eq_true hc]; rfl
      · rw [if_neg hc, decide_eq_false hc]; rfl
    rw [e1, e2]
    exact (carries s c2 io hio r l n).succ

theorem rowMin_eq (s : FVec Ideal S256x1024 .f32) (c2 io : Vec Ideal S1x1024 .f32) (hio : Numbers io) (r : Fin 256)
    {k : Fin 1024} (hk : FirstMin (shifted s c2 r) k) :
    rowMin s c2 (ix2 r (0 : Fin 1)) = shifted s c2 r k :=
  ((shapeCast_a_a1_apply _ _ r 0).trans (rowMin_apply _ _ _ _ r)).trans
    (inf_lanes (fun l => carries s c2 io hio r l 7) hk)

theorem rowArg_eq (s : FVec Ideal S256x1024 .f32) (c2 io : Vec Ideal S1x1024 .f32) (hio : Numbers io) (r : Fin 256)
    {k : Fin 1024} (hk : FirstMin (shifted s c2 r) k) :
    rowArg s c2 io (ix2 r (0 : Fin 1)) = BitVec.ofNat 32 k.val := by
  refine Eq.trans ?_ (fptosi_number k.val k.isLt)
  refine congrArg (Ideal.fptosi 32) ?_
  refine ((shapeCast_a_a1_apply _ _ r 0).trans (rowMin_apply _ _ _ _ r)).trans ?_
  refine Eq.trans (congrArg (fun f : Fin 128 → EReal => Finset.univ.inf f) (funext fun l => ?_))
    (inf_numbers (fun l => carries s c2 io hio r l 7) hk (((1024 : ℝ)) : EReal) le_rfl)
  have e : broadcastTo S256x128 (rowMin s c2) broadcasts_S256x1_S256x128 (ix2 r l) = shifted s c2 r k := by
    refine (broadcastTo_apply _ _ (ix2 r l) (ix2 r (0 : Fin 1)) fun a => ?_).trans (rowMin_eq s c2 io hio r hk)
    match a with
    | ⟨0, _⟩ => rfl
    | ⟨1, _⟩ => rfl
  show Scalar.select (BitVec.ofBool (decide ((best s c2 7 (ix2 r l) : EReal)
      = broadcastTo S256x128 (rowMin s c2) broadcasts_S256x1_S256x128 (ix2 r l))))
    (bestAt s c2 io 7 (ix2 r l)) (Ideal.ofBits .f32 0x44800000#32) = _
  rw [e, number_word]
  by_cases hc : (best s c2 7 (ix2 r l) : EReal) = shifted s c2 r k
  · rw [if_pos hc, decide_eq_true hc]; rfl
  · rw [if_neg hc, decide_eq_false hc]; rfl

/-- The scores of a sub-block, read. -/
theorem score_apply (ct : Vec Ideal S256x1024 .f32) (z : Vec Ideal S256x256 .f32) (r : Fin 256) (k : Fin 1024) :
    score ct z (ix2 r k) = ∑ d : Fin 256, (z (ix2 r d) : EReal) * ct (ix2 d k) := by
  have e : k0_pay2 ct = ct := shapeCast_self _ _
  unfold score
  rw [e]
  refine (Ideal.matmul_plain_apply none z ct (constant S256x1024 .f32 0x00000000#32) r k).trans ?_
  rw [constant_apply, Ideal.ofBits_zero_f32, zero_add]

/-- The squared norms handed on in scratch, read. -/
theorem norms_apply (ct : Vec Ideal S256x1024 .f32) (k : Fin 1024) :
    k0_pay3 ct (ix2 (0 : Fin 1) k)
      = (∑ d : Fin 256, (ct (ix2 d k) : EReal) * ct (ix2 d k)) * (((1 / 4 : ℝ)) : EReal) := by
  have e : k0_pay2 ct = ct := shapeCast_self _ _
  unfold k0_pay3
  dsimp only
  rw [e, shapeCast_self, mulf_apply]
  refine congrArg₂ (fun x y : EReal => x * y) ?_ quarter_word
  refine (shapeCast_a_1a_apply _ _ 0 k).trans ?_
  refine (Ideal.multiReduction_add_single _ _ _ _ _ (ix1 k)).trans (Finset.sum_congr rfl fun d _ => ?_)
  exact congrArg (fun i => (ct i : EReal) * ct i) (lift_column reduces_S256x1024_S1024 k d)

theorem numbers : Numbers (k0_pay4 (F := Ideal)) := fun k => by
  unfold k0_pay4
  dsimp only
  rw [shapeCast_self]
  show ((((iota .tc S1x1024 32 [1] iota_S1x1024_d1_w32 (ix2 (0 : Fin 1) k)).toInt : ℝ)) : EReal) = _
  rw [iota_single_apply]
  have h := k.isLt
  have : (BitVec.ofNat 32 k.val).toInt = (k.val : ℤ) := by
    rw [BitVec.toInt_eq_toNat_of_lt (by rw [BitVec.toNat_ofNat]; omega), BitVec.toNat_ofNat]; omega
  show ((((BitVec.ofNat 32 k.val).toInt : ℝ)) : EReal) = _
  rw [this]; norm_cast

theorem sumSq_eq (z : Vec Ideal S256x256 .f32) :
    sumSq z = ∑ r : Fin 256, ∑ d : Fin 256, (z (ix2 r d) : EReal) * z (ix2 r d) := by
  refine (Ideal.multiReduction_add_total _ 0x00000000#32 _ (fun b => by match b with | ⟨0, _⟩ => rfl) (.inl rfl) rfl _).trans ?_
  refine (Idealize.ShloMosaic.sum_idx3 _).trans ?_
  rw [Fin.sum_univ_one]
  refine Finset.sum_congr rfl fun r _ => Finset.sum_congr rfl fun d _ => ?_
  exact (shapeCast_ab_1ab_apply _ _ 0 r d).trans rfl

theorem sumMin_eq (x : FVec Ideal S256x1 .f32) : sumMin x = ∑ r : Fin 256, (x (ix2 r (0 : Fin 1)) : EReal) := by
  refine (Ideal.multiReduction_add_total _ 0x00000000#32 _ (fun b => by match b with | ⟨0, _⟩ => rfl) (.inl rfl) rfl _).trans ?_
  refine (Idealize.ShloMosaic.sum_idx3 _).trans ?_
  rw [Fin.sum_univ_one]
  refine Finset.sum_congr rfl fun r _ => ?_
  rw [Fin.sum_univ_one]
  exact shapeCast_ab_1ab_apply _ _ 0 r 0

/-! ## All rows -/

/-- The distance of row `n` to centroid `k` up to the row's own squared norm, as the kernel forms it from the scaled,
    transposed centroids `ct`. -/
def energy (z : Vec Ideal S16384x256 .f32) (ct : Vec Ideal S256x1024 .f32) (n : Fin 16384) (k : Fin 1024) : EReal :=
  (∑ d : Fin 256, (ct (ix2 d k) : EReal) * ct (ix2 d k)) * (((1 / 4 : ℝ)) : EReal)
    + ∑ d : Fin 256, (z (ix2 n d) : EReal) * ct (ix2 d k)

theorem rows_apply (z : Vec Ideal S16384x256 .f32) (t j : ℕ) (r d : Fin 256) (n : Fin 16384)
    (hn : n.val = 4096 * (t % 4) + (256 * (j % 16) + r.val)) :
    rows (block z t) j (ix2 r d) = z (ix2 n d) := by
  show z _ = z _
  refine congrArg z (funext fun a => Fin.ext ?_)
  match a with
  | ⟨0, _⟩ => show 4096 * (t % 4) + (256 * (j % 16) + 1 * r.val) = n.val; omega
  | ⟨1, _⟩ => show 0 + 1 * d.val = d.val; omega

theorem shifted_eq (z : Vec Ideal S16384x256 .f32) (ct : Vec Ideal S256x1024 .f32) (t j : ℕ) (r : Fin 256)
    (n : Fin 16384) (hn : n.val = 4096 * (t % 4) + (256 * (j % 16) + r.val)) :
    shifted (score ct (rows (block z t) j)) (k0_pay3 ct) r = energy z ct n := by
  funext k
  unfold shifted energy
  rw [norms_apply, score_apply]
  refine congrArg (fun x : EReal => _ + x) (Finset.sum_congr rfl fun d _ => ?_)
  rw [rows_apply z t j r d n hn]

/-- Each row is assigned the first centroid of least energy. -/
theorem assign_eq (z : Vec Ideal S16384x256 .f32) (ct : Vec Ideal S256x1024 .f32) (n : Fin 16384) {k : Fin 1024}
    (hk : FirstMin (energy z ct n) k) : assign z ct (ix2 n (0 : Fin 1)) = BitVec.ofNat 32 k.val := by
  have h := n.isLt
  refine rowArg_eq _ _ _ numbers _ ?_
  rw [shifted_eq z ct _ _ _ n (by
    show n.val = 4096 * (n.val / 4096 % 4) + (256 * (n.val % 4096 / 256 % 16) + n.val % 4096 % 256); omega)]
  exact hk

/-- Row `n`'s part of the loss; zero past the last row. -/
def rowLoss (z : Vec Ideal S16384x256 .f32) (ct : Vec Ideal S256x1024 .f32) (n : ℕ) : EReal :=
  if h : n < 16384 then
    (∑ d : Fin 256, (z (ix2 ⟨n, h⟩ d) : EReal) * z (ix2 ⟨n, h⟩ d)) + Finset.univ.inf (energy z ct ⟨n, h⟩)
  else 0

theorem subblock_loss (z : Vec Ideal S16384x256 .f32) (ct : Vec Ideal S256x1024 .f32) (t j : ℕ) (ht : t < 4) (hj : j < 16) :
    (sumSq (rows (block z t) j) + sumMin (rowMin (score ct (rows (block z t) j)) (k0_pay3 ct)) : EReal)
      = ∑ r ∈ Finset.range 256, rowLoss z ct (4096 * t + (256 * j + r)) := by
  rw [sumSq_eq, sumMin_eq, ← Finset.sum_add_distrib, ← Fin.sum_univ_eq_sum_range (fun r => rowLoss z ct (4096 * t + (256 * j + r)))]
  refine Finset.sum_congr rfl fun r _ => ?_
  have hr := r.isLt
  have h : 4096 * t + (256 * j + r.val) < 16384 := by omega
  have hn : (⟨_, h⟩ : Fin 16384).val = 4096 * (t % 4) + (256 * (j % 16) + r.val) := by dsimp only; omega
  unfold rowLoss
  rw [dif_pos h]
  refine congrArg₂ (fun x y : EReal => x + y) (Finset.sum_congr rfl fun d _ => ?_) ?_
  · rw [rows_apply z t j r d ⟨_, h⟩ hn]
  · obtain ⟨k, hk⟩ := FirstMin.exists (energy z ct ⟨_, h⟩)
    have e := shifted_eq z ct t j r ⟨_, h⟩ hn
    rw [rowMin_eq _ _ _ numbers r (k := k) (by rw [e]; exact hk), e]
    exact hk.inf_eq.symm

theorem block_loss (z : Vec Ideal S16384x256 .f32) (ct : Vec Ideal S256x1024 .f32) (t : ℕ) (ht : t < 4) : ∀ n, n ≤ 16 →
    lossTerms (block z t) ct (k0_pay3 ct) n
      = ∑ j ∈ Finset.range n, ∑ r ∈ Finset.range 256, rowLoss z ct (4096 * t + (256 * j + r))
  | 0, _ => Ideal.ofBits_zero_f32
  | n + 1, h => by
    rw [Finset.sum_range_succ, ← block_loss z ct t ht n (by omega), ← subblock_loss z ct t n ht (by omega)]
    exact add_assoc (G := EReal) _ _ _

theorem loss_upto (z : Vec Ideal S16384x256 .f32) (ct : Vec Ideal S256x1024 .f32) : ∀ n, n < 4 →
    lossAt z ct n = ∑ t ∈ Finset.range (n + 1), ∑ j ∈ Finset.range 16, ∑ r ∈ Finset.range 256,
      rowLoss z ct (4096 * t + (256 * j + r))
  | 0, h => by
    rw [Finset.sum_range_one, ← block_loss z ct 0 h 16 le_rfl]
    show (Ideal.ofBits .f32 0x00000000#32 + _ : EReal) = _
    rw [Ideal.ofBits_zero_f32, zero_add]
  | n + 1, h => by
    rw [Finset.sum_range_succ, ← block_loss z ct (n + 1) h 16 le_rfl, ← loss_upto z ct n (by omega)]
    rfl

/-- The loss is the sum of all rows' parts. -/
theorem loss_eq (z : Vec Ideal S16384x256 .f32) (ct : Vec Ideal S256x1024 .f32) :
    lossAt z ct 3 = ∑ n : Fin 16384,
      ((∑ d : Fin 256, (z (ix2 n d) : EReal) * z (ix2 n d)) + Finset.univ.inf (energy z ct n)) := by
  have e : ∑ n : Fin 16384, ((∑ d : Fin 256, (z (ix2 n d) : EReal) * z (ix2 n d)) + Finset.univ.inf (energy z ct n))
      = ∑ n : Fin 16384, rowLoss z ct n.val := Finset.sum_congr rfl fun n _ => by
    unfold rowLoss; rw [dif_pos n.isLt]
  rw [loss_upto z ct 3 (by omega), e, Fin.sum_univ_eq_sum_range (rowLoss z ct), show 16384 = 4 * 4096 from rfl,
    sum_runs (rowLoss z ct) 4096 4]
  refine Finset.sum_congr rfl fun t _ => ?_
  rw [show 4096 = 16 * 256 from rfl, sum_runs (fun i => rowLoss z ct (16 * 256 * t + i)) 256 16]

end Cert.KernelIdeal.Value

end
-- ==== Proof.Agree.lean ====
/- The reference over the extended reals, and its agreement with the kernel on finite inputs: the reference's squared
   distances are the kernel's energies plus the row's own squared norm, so both name the same first nearest centroid,
   and the sums of the rows' least distances are equal. -/
module

public import proofs.«01_k».proof.Defs
public import proofs.«01_k».proof.Proof.Gen.ReferenceIdeal
public import proofs.«01_k».proof.Proof.Gen.Pre_finite
public import proofs.«01_k».proof.Proof.Reading
public import Idealize.ShloMosaic.Lib.StackMember
public import Idealize.ShloMosaic.Lib.IdealHost
public import Idealize.ShloMosaic.Lib.ReduceAll
public import Mathlib.Tactic.Ring

@[expose] public section

set_option maxRecDepth 16384

noncomputable section

open Idealize.ShloMosaic hiding ix0 ix1 ix2 ix3 eq_ix1 eq_ix2
open Idealize.ShloMosaic.TcCoe Idealize.ShloMosaic.ValueIdx Idealize.SL.Sem

namespace Cert.Nearest

/-! ## The host's reductions along the columns -/

section Columns

variable {M n : ℕ}

theorem reduces_of_reducesTo (h : (⟨2, ![M, n]⟩ : Shape).ReducesTo [1] (⟨1, ![M]⟩ : Shape)) :
    (⟨2, ![M, n]⟩ : Shape).Reduces [1] (⟨1, ![M]⟩ : Shape) := ⟨h.1, Nat.one_pos, h.2⟩

/-- A row sum of the host. -/
theorem hostRowSum (x : FVec Ideal ⟨2, ![M, n]⟩ .f32) (h : (⟨2, ![M, n]⟩ : Shape).ReducesTo [1] (⟨1, ![M]⟩ : Shape))
    (hu : 0 < (⟨0, ![]⟩ : Shape).numel) (r : Fin M) :
    Host.reduceAdd x (constant (⟨0, ![]⟩ : Shape) .f32 0x00000000#32) h hu (ix1 r) = ∑ d : Fin n, (x (ix2 r d) : EReal) := by
  rw [hostReduceAdd_apply, constant_apply, Ideal.ofBits_zero_f32]
  refine (Ideal.hostReduceAdd_single h (reduces_of_reducesTo h) x 0 (ix1 r)).trans ?_
  rw [zero_add]
  exact Finset.sum_congr rfl fun d _ => congrArg x (lift_row (reduces_of_reducesTo h) r d)

/-- A row minimum of the host. -/
theorem hostRowMin (x : FVec Ideal ⟨2, ![M, n]⟩ .f32) (h : (⟨2, ![M, n]⟩ : Shape).ReducesTo [1] (⟨1, ![M]⟩ : Shape))
    (hu : 0 < (⟨0, ![]⟩ : Shape).numel) (r : Fin M) :
    Host.reduce FloatOps.minimumf x (constant (⟨0, ![]⟩ : Shape) .f32 0x7F800000#32) h hu (ix1 r)
      = Finset.univ.inf fun l : Fin n => (x (ix2 r l) : EReal) := by
  rw [Host.reduce_eq_fold_single FloatOps.minimumf x _ h (reduces_of_reducesTo h) hu]
  have hf : (x ∘ (reduces_of_reducesTo h).lift (ix1 r)) = fun l : Fin n => x (ix2 r l) :=
    funext fun l => congrArg x (lift_row _ r l)
  refine Eq.trans (congrArg (fun f : Fin n → EReal => Finset.fold min (Ideal.ofBits .f32 0x7F800000#32) f Finset.univ) hf) ?_
  rw [top_word]
  rfl

/-- A pair whose index is the value's column number, folded over a row in its order: the first least value and its
    column, whatever body keeps the smaller of two values and the earlier of two equal ones. -/
theorem row_fold [NeZero n] (x : (⟨2, ![M, n]⟩ : Shape).Idx → EReal)
    (h : (⟨2, ![M, n]⟩ : Shape).ReducesTo [1] (⟨1, ![M]⟩ : Shape)) (r : Fin M)
    (red : EReal × BitVec 32 → EReal × BitVec 32 → EReal × BitVec 32)
    (hinit : ∀ v, red (⊤, 0#32) (v, 0#32) = (v, 0#32))
    (hred : ∀ (u v : EReal) (a b : Fin n), a < b → red (u, BitVec.ofNat 32 a.val) (v, BitVec.ofNat 32 b.val)
      = if u ≤ v then (u, BitVec.ofNat 32 a.val) else (v, BitVec.ofNat 32 b.val)) :
    ∃ k, FirstMin (fun c => x (ix2 r c)) k
      ∧ (Host.argReduceFiber x (iotaInDim (⟨2, ![M, n]⟩ : Shape) 32 1) h (ix1 r)).foldl red (⊤, 0#32)
        = (x (ix2 r k), BitVec.ofNat 32 k.val) := by
  let s : Shape := ⟨2, ![M, n]⟩
  let κ : Fin s.numel → Fin n := fun i => (s.rowMajor.symm i) 1
  let f : Fin n → EReal := fun c => x (ix2 r c)
  have hd : ∀ i : s.Idx, (h.drop i 0).val = (i 0).val := fun i => h.drop_apply_val_of_eq i 0 0 Nat.one_pos rfl
  have hdrop : ∀ i : s.Idx, h.drop i = ix1 r ↔ i 0 = r := fun i => by
    constructor
    · intro e
      have e0 := congrArg (fun j : (⟨1, ![M]⟩ : Shape).Idx => (j 0).val) e
      exact Fin.ext ((hd i).symm.trans e0)
    · intro e
      refine (eq_ix1 _).trans (congrArg ix1 (Fin.ext ?_))
      rw [← e]
      exact hd i
  obtain ⟨L, hL⟩ : ∃ L, L = (List.finRange s.numel).filter fun i => h.drop (s.rowMajor.symm i) = ix1 r := ⟨_, rfl⟩
  have hmem : ∀ i, i ∈ L ↔ (s.rowMajor.symm i) 0 = r := fun i => by
    rw [hL, List.mem_filter, decide_eq_true_iff, hdrop]
    exact ⟨fun e => e.2, fun e => ⟨List.mem_finRange i, e⟩⟩
  have hval : ∀ i, i.val = ((s.rowMajor.symm i) 0).val * n + (κ i).val := fun i => by
    have := Shape.rowMajor_val_two (s.rowMajor.symm i)
    rw [Equiv.apply_symm_apply] at this
    exact this
  have hsort : L.Pairwise fun a b => κ a < κ b := by
    have hlt : L.Pairwise (· < ·) := by rw [hL]; exact (List.pairwise_lt_finRange _).filter _
    refine hlt.imp_of_mem fun {a b} ha hb hab => ?_
    have h1 := hval a
    have h2 := hval b
    rw [(hmem a).mp ha] at h1
    rw [(hmem b).mp hb] at h2
    show (κ a).val < (κ b).val
    have : a.val < b.val := hab
    omega
  have hall : ∀ c : Fin n, ∃ i ∈ L, κ i = c := fun c =>
    ⟨s.rowMajor (ix2 r c), (hmem _).mpr (by rw [Equiv.symm_apply_apply]; rfl), by
      show (s.rowMajor.symm (s.rowMajor (ix2 r c))) 1 = c; rw [Equiv.symm_apply_apply]; rfl⟩
  have hlist : Host.argReduceFiber x (iotaInDim (⟨2, ![M, n]⟩ : Shape) 32 1) h (ix1 r)
      = L.map fun i => (f (κ i), BitVec.ofNat 32 (κ i).val) := by
    unfold Host.argReduceFiber
    rw [hL]
    refine List.map_congr_left fun i hi => Prod.ext ?_ rfl
    have hi' := (hmem i).mp (by rw [hL]; exact hi)
    refine congrArg x ((eq_ix2 _).trans ?_)
    rw [hi']; rfl
  rw [hlist]
  clear hlist hL
  match L, hsort, hall with
  | [], _, hall => obtain ⟨i, hi, _⟩ := hall 0; exact absurd hi List.not_mem_nil
  | i :: l, hsort, hall =>
    have hp := List.pairwise_cons.mp hsort
    have h0 : (κ i).val = 0 := by
      obtain ⟨j, hj, e⟩ := hall 0
      rcases List.mem_cons.mp hj with rfl | hj
      · rw [e]; rfl
      · have := hp.1 j hj; rw [e] at this; exact absurd this (Nat.not_lt_zero _)
    obtain ⟨k, he, hle, hk0, hk0', hk⟩ := foldl_first f red (fun a b => hred (f a) (f b) a b) κ l (κ i) hp.2 hp.1
    refine ⟨k, ⟨fun c => ?_, fun c hc => ?_⟩, ?_⟩
    · obtain ⟨j, hj, rfl⟩ := hall c
      rcases List.mem_cons.mp hj with rfl | hj
      · exact hk0
      · exact (hk j hj).1
    · obtain ⟨j, hj, rfl⟩ := hall c
      rcases List.mem_cons.mp hj with rfl | hj
      · exact hk0' hc
      · exact (hk j hj).2 hc
    · rw [List.map_cons, List.foldl_cons, ← he]
      rw [h0, show BitVec.ofNat 32 0 = 0#32 from rfl, hinit]

end Columns

/-- A finite sum of reals is their sum among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem two_word : Ideal.ofBits .f32 0x40000000#32 = (((2 : ℝ)) : EReal) := by
  simp [Ideal.ofBits, Ideal.ieee, -EReal.coe_mul]; norm_num

theorem minus_two_word : Ideal.ofBits .f32 0xC0000000#32 = (((-2 : ℝ)) : EReal) := by
  simp [Ideal.ofBits, Ideal.ieee, -EReal.coe_mul]; norm_num

end Cert.Nearest

namespace Cert.ReferenceIdeal

open Cert.Nearest Cert.ReferenceIdeal.Gen

/-- The reference's array of squared distances. -/
def distances (Z : FVec Ideal S16384x256 .f32) (C : FVec Ideal S1024x256 .f32) : FVec Ideal S16384x1024 .f32 :=
  subf (addf
      (broadcastInDim S16384x1024 ![0, 1] bcast_S16384x1_S16384x1024_0_1
        (broadcastInDim S16384x1 ![0] bcast_S16384_S16384x1_0
          (Host.reduceAdd (mulf Z Z) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf C C) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none Z
        (transpose S256x1024 [1, 0] C transposes_S1024x256_S256x1024_1_0)))

theorem distances_apply (Z : FVec Ideal S16384x256 .f32) (C : FVec Ideal S1024x256 .f32) (n : Fin 16384) (k : Fin 1024) :
    distances Z C (ix2 n k)
      = ((∑ d : Fin 256, (Z (ix2 n d) : EReal) * Z (ix2 n d)) + ∑ d : Fin 256, (C (ix2 k d) : EReal) * C (ix2 k d))
        - (((2 : ℝ)) : EReal) * ∑ d : Fin 256, (Z (ix2 n d) : EReal) * C (ix2 k d) := by
  refine congrArg₂ (fun x y : EReal => x - y) (congrArg₂ (fun x y : EReal => x + y) ?_ ?_)
    (congrArg₂ (fun x y : EReal => x * y) ?_ ?_)
  · refine (broadcastInDim_apply _ _ _ (ix2 n k) (ix2 n (0 : Fin 1)) fun a => ?_).trans ?_
    · match a with
      | ⟨0, _⟩ => rfl
      | ⟨1, _⟩ => rfl
    refine (broadcastInDim_apply _ _ _ (ix2 n (0 : Fin 1)) (ix1 n) fun a => ?_).trans ?_
    · match a with
      | ⟨0, _⟩ => rfl
    exact hostRowSum _ _ _ n
  · refine (broadcastInDim_apply _ _ _ (ix2 n k) (ix2 (0 : Fin 1) k) fun a => ?_).trans ?_
    · match a with
      | ⟨0, _⟩ => rfl
      | ⟨1, _⟩ => rfl
    refine (broadcastInDim_apply _ _ _ (ix2 (0 : Fin 1) k) (ix1 k) fun a => ?_).trans ?_
    · match a with
      | ⟨0, _⟩ => rfl
    exact hostRowSum _ _ _ k
  · exact (broadcastInDim_scalar_apply _ _ _).trans two_word
  · refine (StackMember.dotGeneral_plain_apply none Z _ n k).trans (Finset.sum_congr rfl fun d _ => ?_)
    rw [transpose_ix2_apply]

theorem reducer_init (v : EReal) : reducer_argmin_f32_i32 (F := Ideal) (⊤, 0#32) (v, 0#32) = (v, 0#32) := by
  have h1 : ¬((⊤ : EReal) < v) := not_top_lt
  simp [reducer_argmin_f32_i32, Ideal.cmpf_def, Ideal.cmp, IntOp.ori, IntOp.andi, IntOp.cmpi, Scalar.select, h1]

theorem reducer_step (u v : EReal) (a b : Fin 1024) (hab : a < b) :
    reducer_argmin_f32_i32 (F := Ideal) (u, BitVec.ofNat 32 a.val) (v, BitVec.ofNat 32 b.val)
      = if u ≤ v then (u, BitVec.ofNat 32 a.val) else (v, BitVec.ofNat 32 b.val) := by
  have hs : (BitVec.ofNat 32 a.val).slt (BitVec.ofNat 32 b.val) = true := by
    have hval : ∀ c : Fin 1024, (BitVec.ofNat 32 c.val).toInt = (c.val : ℤ) := fun c => by
      have := c.isLt
      rw [BitVec.toInt_eq_toNat_of_lt (by rw [BitVec.toNat_ofNat]; omega), BitVec.toNat_ofNat]; omega
    rw [BitVec.slt, hval, hval, decide_eq_true_iff]
    exact_mod_cast hab
  rcases lt_trichotomy u v with h | h | h
  · simp [reducer_argmin_f32_i32, Ideal.cmpf_def, Ideal.cmp, IntOp.ori, IntOp.andi, IntOp.cmpi, Scalar.select, h, h.le, h.ne]
  · subst h
    simp [reducer_argmin_f32_i32, Ideal.cmpf_def, Ideal.cmp, IntOp.ori, IntOp.andi, IntOp.cmpi, Scalar.select, hs]
  · simp [reducer_argmin_f32_i32, Ideal.cmpf_def, Ideal.cmp, IntOp.ori, IntOp.andi, IntOp.cmpi, Scalar.select, not_lt.mpr h.le,
      not_le.mpr h, h.ne']

/-- The reference's arg-min of a row of any array. -/
theorem argmin_apply (D : FVec Ideal S16384x1024 .f32) (n : Fin 16384) :
    ∃ k, FirstMin (fun c : Fin 1024 => (D (ix2 n c) : EReal)) k
      ∧ (Host.argReduce reducer_argmin_f32_i32 D (iotaInDim S16384x1024 32 1) (constant S_ .f32 0x7F800000#32)
          (constantI S_ 32 0#32) reducesTo_S16384x1024_S16384_d1 h_S_ (ix1 n)).2 = BitVec.ofNat 32 k.val := by
  obtain ⟨k, hk, e⟩ := row_fold D reducesTo_S16384x1024_S16384_d1 n (reducer_argmin_f32_i32 (F := Ideal)) reducer_init
    reducer_step
  refine ⟨k, hk, ?_⟩
  rw [Ideal.argReduce_eq_reduce2, Host.reduce2_eq_foldl_fiber]
  rw [constant_apply, top_word]
  exact congrArg Prod.snd e

end Cert.ReferenceIdeal

namespace Cert.Agree

open Cert.Nearest Cert.ReferenceIdeal Cert.KernelIdeal.Value

/-! ## Finite inputs -/

theorem real_of_finite {x : EReal} (h : BitVec.ofBool (decide (max x (-x) < ⊤)) = 1#1) : ∃ r : ℝ, x = (r : EReal) := by
  have h' : max x (-x) < ⊤ := by
    by_contra hc
    rw [decide_eq_false hc] at h; exact absurd h (by decide)
  have h1 : x ≠ ⊤ := fun e => by rw [e] at h'; simp at h'
  have h2 : x ≠ ⊥ := fun e => by rw [e] at h'; simp at h'
  exact ⟨x.toReal, (EReal.coe_toReal h1 h2).symm⟩

/-- Under the precondition every entry of the two arrays is a real number. -/
theorem reals {Z : FVec Ideal S16384x256 .f32} {C : FVec Ideal S1024x256 .f32}
    (h : Cert.Pre_finite.fn (F := Ideal) Z C = fun _ => 1#1) :
    (∃ z : Fin 16384 → Fin 256 → ℝ, ∀ n d, Z (ix2 n d) = ((z n d : ℝ) : EReal))
      ∧ ∃ c : Fin 1024 → Fin 256 → ℝ, ∀ k d, C (ix2 k d) = ((c k d : ℝ) : EReal) := by
  have h0 := congrFun h ix0
  obtain ⟨hz, hc⟩ := IntOp.andi_eq_one.1 h0
  have hsub : Subsingleton Cert.Pre_finite.S_.Idx := ⟨fun a b => funext fun i => i.elim0⟩
  constructor
  · have hr : ∀ n d, ∃ r : ℝ, Z (ix2 n d) = (r : EReal) := fun n d => by
      have e := Host.reduce_andi_all _ _ _ _ _ hz (ix2 n d)
      refine real_of_finite ?_
      rw [← top_word]
      exact e
    choose r hr using hr
    exact ⟨r, hr⟩
  · have hr : ∀ k d, ∃ r : ℝ, C (ix2 k d) = (r : EReal) := fun k d => by
      have e := Host.reduce_andi_all _ _ _ _ _ hc (ix2 k d)
      refine real_of_finite ?_
      rw [← top_word]
      exact e
    choose r hr using hr
    exact ⟨r, hr⟩

/-- The last step of the assignments: the one column dropped. -/
theorem assign_row (z : Vec Ideal Cert.KernelIdeal.S16384x256 .f32) (ct : Vec Ideal Cert.KernelIdeal.S256x1024 .f32)
    (n : Fin 16384) :
    shapeCast Cert.KernelIdeal.S16384 (assign z ct) Cert.KernelIdeal.Gen.shapeCasts_S16384x1_S16384 (ix1 n)
      = assign z ct (ix2 n (0 : Fin 1)) :=
  shapeCast_apply _ _ _ _ (by
    rw [Shape.rowMajor_val_two, Shape.rowMajor_val_one]
    show n.val * 1 + 0 = n.val
    omega)

/-! ## The two programs on finite inputs -/

section Finite

variable (Z : FVec Ideal S16384x256 .f32) (C : FVec Ideal S1024x256 .f32) (ct : Vec Ideal Cert.KernelIdeal.S256x1024 .f32)
variable (z : Fin 16384 → Fin 256 → ℝ) (c : Fin 1024 → Fin 256 → ℝ)

/-- A row's squared norm. -/
def normSq (n : Fin 16384) : ℝ := ∑ d, z n d * z n d

/-- The kernel's energy as a real number. -/
def realEnergy (n : Fin 16384) (k : Fin 1024) : ℝ := (∑ d, c k d * c k d) - 2 * ∑ d, z n d * c k d

theorem norm_eq (hZ : ∀ n d, Z (ix2 n d) = ((z n d : ℝ) : EReal)) (n : Fin 16384) :
    ∑ d : Fin 256, (Z (ix2 n d) : EReal) * Z (ix2 n d) = ((normSq z n : ℝ) : EReal) := by
  unfold normSq
  rw [coe_sum]
  exact Finset.sum_congr rfl fun d _ => by rw [hZ, EReal.coe_mul]

theorem distances_eq (hZ : ∀ n d, Z (ix2 n d) = ((z n d : ℝ) : EReal)) (hC : ∀ k d, C (ix2 k d) = ((c k d : ℝ) : EReal))
    (n : Fin 16384) (k : Fin 1024) :
    distances Z C (ix2 n k) = ((normSq z n + realEnergy z c n k : ℝ) : EReal) := by
  have e1 : ∑ d : Fin 256, (C (ix2 k d) : EReal) * C (ix2 k d) = ((∑ d, c k d * c k d : ℝ) : EReal) := by
    rw [coe_sum]; exact Finset.sum_congr rfl fun d _ => by rw [hC, EReal.coe_mul]
  have e2 : ∑ d : Fin 256, (Z (ix2 n d) : EReal) * C (ix2 k d) = ((∑ d, z n d * c k d : ℝ) : EReal) := by
    rw [coe_sum]; exact Finset.sum_congr rfl fun d _ => by rw [hZ, hC, EReal.coe_mul]
  rw [distances_apply, norm_eq Z z hZ n, e1, e2, ← EReal.coe_add, ← EReal.coe_mul, ← EReal.coe_sub]
  unfold realEnergy
  exact congrArg _ (by ring)

theorem energy_eq (hZ : ∀ n d, Z (ix2 n d) = ((z n d : ℝ) : EReal)) (hct : ∀ d k, ct (ix2 d k) = ((-2 * c k d : ℝ) : EReal))
    (n : Fin 16384) (k : Fin 1024) : energy Z ct n k = ((realEnergy z c n k : ℝ) : EReal) := by
  have e1 : ∑ d : Fin 256, (ct (ix2 d k) : EReal) * ct (ix2 d k) = ((∑ d, (-2 * c k d) * (-2 * c k d) : ℝ) : EReal) := by
    rw [coe_sum]; exact Finset.sum_congr rfl fun d _ => by rw [hct, ← EReal.coe_mul]
  have e2 : ∑ d : Fin 256, (Z (ix2 n d) : EReal) * ct (ix2 d k) = ((∑ d, z n d * (-2 * c k d) : ℝ) : EReal) := by
    rw [coe_sum]; exact Finset.sum_congr rfl fun d _ => by rw [hZ, hct, ← EReal.coe_mul]
  unfold energy
  rw [e1, e2, ← EReal.coe_mul, ← EReal.coe_add]
  unfold realEnergy
  refine congrArg _ ?_
  rw [Finset.sum_mul, Finset.mul_sum, ← Finset.sum_add_distrib, ← Finset.sum_sub_distrib]
  exact Finset.sum_congr rfl fun d _ => by ring

/-- The first nearest centroid by the reference's distances is the first of least energy. -/
theorem firstMin_energy (hZ : ∀ n d, Z (ix2 n d) = ((z n d : ℝ) : EReal)) (hC : ∀ k d, C (ix2 k d) = ((c k d : ℝ) : EReal))
    (hct : ∀ d k, ct (ix2 d k) = ((-2 * c k d : ℝ) : EReal)) (n : Fin 16384) {k : Fin 1024}
    (hk : FirstMin (fun j : Fin 1024 => (distances Z C (ix2 n j) : EReal)) k) : FirstMin (energy Z ct n) k := by
  have e : (fun j : Fin 1024 => (distances Z C (ix2 n j) : EReal))
      = fun j => ((normSq z n + realEnergy z c n j : ℝ) : EReal) := funext fun j => distances_eq Z C z c hZ hC n j
  rw [e] at hk
  rw [show energy Z ct n = fun j => ((realEnergy z c n j : ℝ) : EReal) from funext fun j => energy_eq Z ct z c hZ hct n j]
  exact hk.shift _ _ (normSq z n) fun _ => rfl

/-- And the least distance is the row's squared norm plus the least energy. -/
theorem least_eq (hZ : ∀ n d, Z (ix2 n d) = ((z n d : ℝ) : EReal)) (hC : ∀ k d, C (ix2 k d) = ((c k d : ℝ) : EReal))
    (hct : ∀ d k, ct (ix2 d k) = ((-2 * c k d : ℝ) : EReal)) (n : Fin 16384) :
    (Finset.univ.inf fun j : Fin 1024 => (distances Z C (ix2 n j) : EReal))
      = (∑ d : Fin 256, (Z (ix2 n d) : EReal) * Z (ix2 n d)) + Finset.univ.inf (energy Z ct n) := by
  obtain ⟨k, hk⟩ := FirstMin.exists fun j : Fin 1024 => (distances Z C (ix2 n j) : EReal)
  rw [hk.inf_eq, (firstMin_energy Z C ct z c hZ hC hct n hk).inf_eq, norm_eq Z z hZ n, energy_eq Z ct z c hZ hct n k,
    ← EReal.coe_add]
  exact distances_eq Z C z c hZ hC n k

end Finite

/-- The scaled, transposed centroids of finite centroids. -/
theorem scaled (C : FVec Ideal S1024x256 .f32) (c : Fin 1024 → Fin 256 → ℝ) (hC : ∀ k d, C (ix2 k d) = ((c k d : ℝ) : EReal))
    (hb : Cert.KernelIdeal.S_.BroadcastsInDim Cert.KernelIdeal.S256x1024 ![])
    (ht : Cert.KernelIdeal.S1024x256.Transposes [1, 0] Cert.KernelIdeal.S256x1024) (d : Fin 256) (k : Fin 1024) :
    mulf (broadcastInDim Cert.KernelIdeal.S256x1024 ![] hb (constant (F := Ideal) Cert.KernelIdeal.S_ .f32 0xC0000000#32))
      (transpose Cert.KernelIdeal.S256x1024 [1, 0] C ht) (ix2 d k) = ((-2 * c k d : ℝ) : EReal) := by
  rw [EReal.coe_mul, mulf_apply]
  refine congrArg₂ (fun x y : EReal => x * y) ((broadcastInDim_scalar_apply _ _ _).trans minus_two_word) ?_
  rw [transpose_ix2_apply, hC]

/-- The assignments agree. -/
theorem assignments {Z : FVec Ideal S16384x256 .f32} {C : FVec Ideal S1024x256 .f32}
    {ct : Vec Ideal Cert.KernelIdeal.S256x1024 .f32}
    (h : Cert.Pre_finite.fn (F := Ideal) Z C = fun _ => 1#1)
    (hct : ct = mulf (broadcastInDim Cert.KernelIdeal.S256x1024 ![] Cert.KernelIdeal.Gen.bcast_S_S256x1024
        (constant (F := Ideal) Cert.KernelIdeal.S_ .f32 0xC0000000#32))
      (transpose Cert.KernelIdeal.S256x1024 [1, 0] C Cert.KernelIdeal.Gen.transposes_S1024x256_S256x1024_1_0)) :
    (fun j => (Host.argReduce reducer_argmin_f32_i32 (distances Z C) (iotaInDim S16384x1024 32 1)
        (constant S_ .f32 0x7F800000#32) (constantI S_ 32 0#32) Cert.ReferenceIdeal.Gen.reducesTo_S16384x1024_S16384_d1
        Cert.ReferenceIdeal.Gen.h_S_ j).2)
      = shapeCast Cert.KernelIdeal.S16384 (assign Z ct) Cert.KernelIdeal.Gen.shapeCasts_S16384x1_S16384 := by
  obtain ⟨⟨z, hZ⟩, c, hC⟩ := reals h
  funext j
  obtain ⟨n, rfl⟩ : ∃ n : Fin 16384, j = ix1 n := ⟨j 0, eq_ix1 j⟩
  obtain ⟨k, hk, e⟩ := argmin_apply (distances Z C) n
  have hk' := firstMin_energy Z C ct z c hZ hC (fun d k => by rw [hct]; exact scaled C c hC _ _ d k) n hk
  refine e.trans ((assign_eq Z ct n hk').symm.trans ?_)
  exact (assign_row Z ct n).symm

/-- The losses agree. -/
theorem losses {Z : FVec Ideal S16384x256 .f32} {C : FVec Ideal S1024x256 .f32}
    {ct : Vec Ideal Cert.KernelIdeal.S256x1024 .f32}
    (h : Cert.Pre_finite.fn (F := Ideal) Z C = fun _ => 1#1)
    (hct : ct = mulf (broadcastInDim Cert.KernelIdeal.S256x1024 ![] Cert.KernelIdeal.Gen.bcast_S_S256x1024
        (constant (F := Ideal) Cert.KernelIdeal.S_ .f32 0xC0000000#32))
      (transpose Cert.KernelIdeal.S256x1024 [1, 0] C Cert.KernelIdeal.Gen.transposes_S1024x256_S256x1024_1_0)) :
    Host.reduceAdd (F := Ideal) (Host.reduce FloatOps.minimumf (distances Z C) (constant S_ .f32 0x7F800000#32)
        Cert.ReferenceIdeal.Gen.reducesTo_S16384x1024_S16384_d1 Cert.ReferenceIdeal.Gen.h_S_)
      (constant S_ .f32 0x00000000#32) Cert.ReferenceIdeal.Gen.reducesTo_S16384_S_d0 Cert.ReferenceIdeal.Gen.h_S_
      = fun _ => lossAt Z ct 3 := by
  obtain ⟨⟨z, hZ⟩, c, hC⟩ := reals h
  funext j
  rw [loss_eq, hostReduceAdd_apply, constant_apply, Ideal.ofBits_zero_f32]
  refine (Ideal.hostReduceAdd_total _ (fun b => b.elim0) _ _ _).trans ?_
  rw [zero_add]
  refine (Idealize.ShloMosaic.sum_idx1 _).trans (Finset.sum_congr rfl fun n _ => ?_)
  exact (hostRowMin _ _ _ n).trans
    (least_eq Z C ct z c hZ hC (fun d k => by rw [hct]; exact scaled C c hC _ _ d k) n)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, leaves its two arguments as they were, and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) ∧ r.2.sem = fun _ => 0) := by
  hlo_run
  · exact fun _ => ⟨trivial, trivial⟩
  · exact sem_eq_zero_of_no_sems (sig := Cert.ReferenceIdeal.sig) (by decide) _

/-- On finite arguments the kernel and the reference return the same loss and the same assignments. -/
theorem algebraic : Cert.algebraic_KernelIdeal_ReferenceIdeal_pre_finite := by
  pair_intro
  · run_from Cert.KernelIdeal.Value.run m g & Cert.KernelIdeal.Gen.unchanged m g
  · hlo_run
    · exact congrArg (fun x => Host.divf x (constant Cert.ReferenceIdeal.S_ .f32 0x46800000#32))
        (Cert.Agree.losses (hpre c) (Cert.KernelIdeal.Value.cents_eq m c))
    · exact Cert.Agree.assignments (hpre c) (Cert.KernelIdeal.Value.cents_eq m c)

/-- All claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    algebraic⟩

end Cert.Proof

end
